-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32768x1024 : Shape := ⟨2, ![32768, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S32768x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c16384_i32 : BitVec 32 := 16384#32
  let v9 : BitVec 32 := Scalar.muli v2 c16384_i32
  let c0_i32 : BitVec 32 := 0#32
  ![v9.toNat, 0]
def k0_dev1 (d0 : Dev nD) : Nat :=
  let c0_i32_6 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let c4_i32_5 : BitVec 32 := 4#32
  let v13 : BitVec 32 := Scalar.muli v12 c4_i32_5
  let v14 : BitVec 32 := Scalar.addi c0_i32_6 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v15 : BitVec 32 := Scalar.muli v5 c2_i32_7
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v17 : BitVec 32 := Scalar.muli v8 c1_i32_8
  let v18 : BitVec 32 := Scalar.addi v16 v17
  v18.toNat
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Rows.lean ====
/-
The devices, the row halves and the values of the all-gather along the mesh axis x.

Device c of the 2 × 2 × 2 mesh has x-coordinate c / 4. Its argument is a block of 16384 rows; the result of every
device has 32768 rows, the rows from 16384 · (c / 4) on being filled from device c and the others from the device
with the other x-coordinate and the same y and z.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.Sem

variable {F : FTy → Type} [FloatOps F]

/-! ## The partner of a device -/

/-- The device with the other x-coordinate and the same y and z. -/
def peer (c : Dev nD) : Dev nD := ⟨(c.val + 4) % 8, Nat.mod_lt _ (by decide)⟩

/-- Taking the partner twice is the device itself. -/
theorem peer_peer (c : Dev nD) : peer (peer c) = c := by revert c; decide

/-- The device the kernel addresses its remote copy to is the partner. -/
theorem target_eq (c : Dev nD) : (⟨k0_dev1 c, k0_dev1_lt c⟩ : Dev nD) = peer c := by
  refine Fin.ext ?_
  rw [show (⟨k0_dev1 c, k0_dev1_lt c⟩ : Dev nD).val = k0_dev1 c from rfl, k0_dev1_eq]
  revert c; decide

/-- Taking the partner, as a permutation of the devices. -/
def swap : Dev nD ≃ Dev nD := ⟨peer, peer, peer_peer, peer_peer⟩

/-- The partner has the other x-coordinate. -/
theorem peer_coord (c : Dev nD) : (peer c).val / 4 = 1 - c.val / 4 := by revert c; decide

/-- An x-coordinate is 0 or 1. -/
theorem coord_lt (c : Dev nD) : c.val / 4 < 2 := by revert c; decide

/-! ## The two halves of the result's rows -/

/-- The argument of the kernel, whole. -/
abbrev xM : Memref sig .tc .hbm S16384x1024 .bf16 := Memref.whole main_arg0

/-- The rows of the result that device `d` fills, here and on its partner. -/
abbrev half (d : Dev nD) : Memref sig .tc .hbm S16384x1024 .bf16 :=
  (Memref.whole main_v1).slice (Rect.unit (s := S32768x1024) (k0_off1 d) S16384x1024.size (k0_off1_inb d)) (fun _ => rfl)

/-- The positions of the result under `half d`. -/
abbrev rows (d : Dev nD) : Finset S32768x1024.Idx := (half d).view.set

/-- A position of the result is under `half d` exactly when its row lies in the block of `d`'s x-coordinate. -/
theorem mem_rows (d : Dev nD) (i : S32768x1024.Idx) : i ∈ rows d ↔ (i 0).val / 16384 = d.val / 4 := by
  have h : i ∈ rows d ↔ i ∈ (Rect.unit (s := S32768x1024) (k0_off1 d) S16384x1024.size (k0_off1_inb d)).set :=
    ValueKit.mem_set_slice_whole_iff main_v1 _ i Iff.rfl
  rw [h, Rect.mem_set_unit]
  have h0 : k0_off1 d (0 : Fin 2) = 16384 * (d.val / 4) := congrFun (k0_off1_eq d) 0
  have h1 : k0_off1 d (1 : Fin 2) = 0 := congrFun (k0_off1_eq d) 1
  constructor
  · intro hi
    have := hi 0
    rw [h0] at this
    have hs : S16384x1024.size (0 : Fin 2) = 16384 := rfl
    have a := this.1; have b := this.2
    change _ < _ + 16384 at b
    omega
  · intro hi a
    have hl1 : (i 1).val < 1024 := (i 1).isLt
    fin_cases a
    · refine ⟨?_, ?_⟩
      · show k0_off1 d (0 : Fin 2) ≤ (i 0).val
        rw [h0]; omega
      · show (i 0).val < k0_off1 d (0 : Fin 2) + 16384
        rw [h0]; omega
    · refine ⟨?_, ?_⟩
      · show k0_off1 d (1 : Fin 2) ≤ (i 1).val
        rw [h1]; omega
      · show (i 1).val < k0_off1 d (1 : Fin 2) + 1024
        rw [h1]; omega

/-- A device's half and its partner's half have no position in common. -/
theorem rows_disjoint (c : Dev nD) : Disjoint (rows c) (rows (peer c)) := by
  rw [Finset.disjoint_left]
  intro i h1 h2
  rw [mem_rows] at h1 h2
  have := peer_coord c; have := coord_lt c
  omega

/-- Together they are the whole result. -/
theorem rows_cover (c : Dev nD) : rows c ∪ rows (peer c) = Finset.univ := by
  refine Finset.eq_univ_iff_forall.mpr fun i => ?_
  rw [Finset.mem_union, mem_rows, mem_rows]
  have := peer_coord c; have := coord_lt c
  have : (i 0).val < 32768 := (i 0).isLt
  omega

/-! ## The values -/

/-- The position of a block that a position of the result is filled from. -/
def inner (i : S32768x1024.Idx) : S16384x1024.Idx :=
  fun a => ⟨(i a).val % S16384x1024.size a, Nat.mod_lt _ (by fin_cases a <;> decide)⟩

/-- The device whose block fills position `i` of device `c`'s result. -/
def source (c : Dev nD) (i : S32768x1024.Idx) : Dev nD := if (i 0).val / 16384 = c.val / 4 then c else peer c

variable (m : (ℓ : Loc nD τ sig) → Buf (Elt F) ℓ)

/-- The argument of device `c` at the start. -/
abbrev blockOf (c : Dev nD) : Buf (Elt F) ((c : Thread nD τ).loc main_arg0) := m ((c : Thread nD τ).loc main_arg0)

/-- The result of device `c`: every row from the block of the device with that row's x-coordinate. -/
def gathered (c : Dev nD) : Buf (Elt F) ((c : Thread nD τ).loc main_v1) :=
  fun i => blockOf m (source c i) (inner i)

omit [FloatOps F] in
/-- A position in a device's own half is filled from its own block, -/
theorem gathered_own (c : Dev nD) {i : S32768x1024.Idx} (h : i ∈ rows c) : gathered m c i = blockOf m c (inner i) := by
  unfold gathered source
  rw [if_pos ((mem_rows c i).mp h)]

omit [FloatOps F] in
/-- and the same position of its partner's result as well. -/
theorem gathered_peer (c : Dev nD) {i : S32768x1024.Idx} (h : i ∈ rows c) : gathered m (peer c) i = blockOf m c (inner i) := by
  unfold gathered source
  rw [if_neg (by have := (mem_rows c i).mp h; have := peer_coord c; have := coord_lt c; omega), peer_peer]

omit [FloatOps F] in
/-- A block copied whole to the rows of `d` puts at each of these rows the row of the block that `inner` names. -/
theorem copied (d : Dev nD) (fd : S32768x1024.Idx → Elt F .bf16) (fs : S16384x1024.Idx → Elt F .bf16)
    {i : S32768x1024.Idx} (h : i ∈ rows d) :
    (half d).view.write (Elt F) fd (xM.view.read (Elt F) fs) Finset.univ i = fs (inner i) := by
  have hr : xM.view.read (Elt F) fs = fs := View.read_whole _ _
  rw [hr]
  obtain ⟨j, -, hj⟩ := Finset.mem_map.mp h
  have he : (half d).view.emb j = i := hj
  have hi : inner i = j := by
    rw [← he]
    funext a
    refine Fin.ext ?_
    have hv : ((half d).view.emb j a).val = k0_off1 d a + (j a).val :=
      ValueKit.view_emb_slice_whole_unit_val main_v1 (k0_off1 d) S16384x1024.size (k0_off1_inb d) j a
    show ((half d).view.emb j a).val % S16384x1024.size a = (j a).val
    rw [hv, k0_off1_eq]
    have hl : (j a).val < S16384x1024.size a := (j a).isLt
    fin_cases a
    · show (16384 * (d.val / 4) + (j 0).val) % 16384 = (j 0).val
      change (j 0).val < 16384 at hl
      omega
    · show (0 + (j 1).val) % 1024 = (j 1).val
      change (j 1).val < 1024 at hl
      omega
  rw [hi, ← he]
  exact View.write_emb_of_mem (v := (half d).view) fd fs (Finset.mem_univ j)

end Cert.Gather

end
-- ==== Proof.Cells.lean ====
/-
The three completion counters of each device and what each hands over.

Each counter is credited by exactly one transfer and waited on exactly once, so one round with one duty describes it:
  0  the local copy: gives back the device's own half of its result, filled, and the share of the argument it read;
  1  the remote copy as seen by its sender: gives back the other share of the argument;
  2  the remote copy as seen by its receiver: gives the half of the result that the partner fills, filled.
-/
module

public import proofs.«01_k».proof.Proof.Rows

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user part of the resources: one copy of the rounds algebra for the pipeline entry, one for the three counters. -/
abbrev UU : Type := UR sig nD τ × UR sig nD τ

local notation "𝕄" => MT nD τ sig Unit (Elt F) ℕ UU ℕ

/-- Where the pipeline entry's copy lies, -/
abbrev EP : Emb (UR sig nD τ) (MT nD τ sig Unit (Elt F) ℕ UU ℕ) := embL
/-- and where the counters' copy lies. -/
abbrev EC : Emb (UR sig nD τ) (MT nD τ sig Unit (Elt F) ℕ UU ℕ) := embR

variable (m : (ℓ : Loc nD τ sig) → Buf (Elt F) ℓ)

/-! ## Counters and holdings -/

/-- The three counters of a core, in the order local copy, sender, receiver. -/
abbrev counter : Fin 3 → SemLoc sig
  | 0 => .dma cc0_scratch0.sem
  | 1 => .dma cc0_scratch1.sem
  | 2 => .dma cc0_scratch2.sem

/-- Counter `k` of device `c`. -/
abbrev cell (c : Dev nD) (k : Fin 3) : GSem nD τ sig := ((c : Thread nD τ), counter k)

/-- The three counters are different ones. -/
theorem counter_injective : Function.Injective counter := by decide

/-- Counters of different devices or of different kinds are different. -/
theorem cell_injective : Function.Injective fun ck : Dev nD × Fin 3 => cell ck.1 ck.2 := by
  rintro ⟨c, k⟩ ⟨c', k'⟩ h
  have hc : c = c' := congrArg (fun g : GSem nD τ sig => g.1.1) h
  have hk : k = k' := counter_injective (congrArg (fun g : GSem nD τ sig => g.2) h)
  rw [hc, hk]

/-- What one transfer of a block credits. -/
def credit : ℕ := xM.view.dmaCredit
/-- It is not nothing. -/
theorem credit_pos : 0 < credit := View.dmaCredit_pos _ (by decide)
/-- A transfer into any half of a result credits it, -/
theorem credit_half (d : Dev nD) : (half d).view.dmaCredit = credit := rfl
/-- and so does the argument's view, which the wait for the departure names. -/
theorem credit_arg : xM.view.dmaCredit = credit := rfl

/-- A share of device `c`'s argument, at its contents at the start. -/
def arg (q : PosShare TreeShare) (c : Dev nD) : sProp 𝕄 := xM.view.loc (c : Thread nD τ) ↦[xM.view.set]{q} blockOf m c

/-- The rows of device `c`'s result that device `d` fills, at contents `f`. -/
def part (d c : Dev nD) (f : Buf (Elt F) ((c : Thread nD τ).loc main_v1)) : sProp 𝕄 :=
  (half d).view.loc (c : Thread nD τ) ↦[(half d).view.set]{fullShare} f

omit [FloatOps F] in
instance arg_storable (q) (c : Dev nD) : BI.Storable (upEmb : UEmb _ 𝕄) (arg m q c) := by unfold arg; infer_instance
omit [FloatOps F] in
instance part_storable (d c : Dev nD) (f) : BI.Storable (upEmb : UEmb _ 𝕄) (part (F := F) d c f) := by unfold part; infer_instance

/-- What counter `k` of device `c` hands over when its transfer has completed. -/
def handed (c : Dev nD) : Fin 3 → sProp 𝕄
  | 0 => iprop(part c c (gathered m c) ∗ arg m fullShare.left c)
  | 1 => arg m fullShare.right c
  | 2 => part (peer c) c (gathered m c)

instance handed_storable (c : Dev nD) (k : Fin 3) : BI.Storable (upEmb : UEmb _ 𝕄) (handed m c k) := by
  fin_cases k
  · show BI.Storable upEmb iprop(part c c (gathered m c) ∗ arg m fullShare.left c)
    infer_instance
  · show BI.Storable upEmb (arg m fullShare.right c)
    infer_instance
  · show BI.Storable upEmb (part (peer c) c (gathered m c))
    infer_instance

/-! ## The schedule -/

/-- One round, one duty per counter of each TensorCore: the credit of a block against what the counter hands over. -/
def plan : Rounds.Schedule (GSem nD τ sig) Unit 𝕄 where
  duties g r := if r = 0 ∧ g.1.2 = .tc ∧ ∃ k, counter k = g.2 then {()} else ∅
  unitless _ := False
  amount _ _ _ := credit
  payload g _ _ := bigSep (Finset.univ.filter fun k => counter k = g.2) (handed m g.1.1)
  amount_pos _ _ _ _ := credit_pos

instance plan_storable (g : GSem nD τ sig) (r : ℕ) (d : Unit) : BI.Storable (upEmb : UEmb _ 𝕄) ((plan m).payload g r d) := by
  show BI.Storable upEmb (bigSep (Finset.univ.filter fun k => counter k = g.2) (handed m g.1.1))
  infer_instance

/-- Each counter has its one duty in round 0, -/
theorem duties_now (c : Dev nD) (k : Fin 3) : (plan m).duties (cell c k) 0 = {()} := if_pos ⟨rfl, rfl, k, rfl⟩

/-- and none in a later round. -/
theorem duties_later (g : GSem nD τ sig) : ∀ r, 1 ≤ r → (plan m).duties g r = ∅ := fun r hr => if_neg fun h => by omega

/-- The one duty of a counter is among those of round 0. -/
theorem mem_duties (c : Dev nD) (k : Fin 3) : () ∈ (plan m).duties (cell c k) 0 := by
  rw [duties_now]; exact Finset.mem_singleton_self _

/-- The duty's amount is the credit of one block. -/
theorem amount_now (g : GSem nD τ sig) (r : ℕ) (u : Unit) : (plan m).amount g r u = credit := rfl

/-- Round 0 of a counter expects the credit of one block. -/
theorem expect_now (c : Dev nD) (k : Fin 3) : (plan m).expect (cell c k) 0 = credit := by
  unfold Schedule.expect Schedule.amountOf
  rw [duties_now, Finset.sum_singleton]; rfl

/-- The duty's payload is what the counter hands over. -/
theorem payload_now (c : Dev nD) (k : Fin 3) : (plan m).payload (cell c k) 0 () = handed m c k := by
  show bigSep (Finset.univ.filter fun k' => counter k' = counter k) (handed m c) = handed m c k
  rw [show (Finset.univ.filter fun k' => counter k' = counter k) = {k} from by revert k; decide, bigSep_singleton]

/-- What a wait for the whole round receives. -/
theorem received (c : Dev nD) (k : Fin 3) :
    bigSep ((plan m).duties (cell c k) 0 \ ∅) (fun u => (plan m).payload (cell c k) 0 u) = handed m c k := by
  rw [Finset.sdiff_empty, duties_now, bigSep_singleton, payload_now]

/-! ## What the holdings mean -/

omit [FloatOps F] in
/-- A share of the argument, named by its buffer. -/
theorem arg_eq (q) (c : Dev nD) : arg m q c = (((c : Thread nD τ).loc main_arg0) ↦{q} blockOf m c : sProp 𝕄) := by
  unfold arg; rw [View.set_whole]

omit [FloatOps F] in
/-- The whole argument is its two shares. -/
theorem arg_split (c : Dev nD) :
    (((c : Thread nD τ).loc main_arg0) ↦{fullShare} blockOf m c : sProp 𝕄) ⊣⊢ iprop(arg m fullShare.left c ∗ arg m fullShare.right c) := by
  rw [arg_eq, arg_eq]
  exact pointsTo_share (PosShare.mem_left_op_right fullShare)

omit [FloatOps F] in
/-- The whole result is its two halves. -/
theorem result_split (c : Dev nD) (f : Buf (Elt F) ((c : Thread nD τ).loc main_v1)) :
    (((c : Thread nD τ).loc main_v1) ↦{fullShare} f : sProp 𝕄) ⊣⊢ iprop(part c c f ∗ part (peer c) c f) := by
  unfold part
  rw [← rows_cover c]
  exact pointsTo_union (rows_disjoint c)

omit [FloatOps F] in
/-- The rows of `d` after the copy of `d`'s block hold what device `c`'s result has there, once the two agree. -/
theorem part_copied (d c : Dev nD) (fd : Buf (Elt F) ((c : Thread nD τ).loc main_v1))
    (h : ∀ i ∈ rows d, gathered m c i = blockOf m d (inner i)) :
    ((half d).view.loc (c : Thread nD τ) ↦[(half d).view.set]{fullShare}
        ((half d).view.write (Elt F) fd (xM.view.read (Elt F) (blockOf m d)) Finset.univ) : sProp 𝕄)
      = part d c (gathered m c) := by
  unfold part
  exact pointsTo_congr fun i hi => (copied d fd (blockOf m d) hi).trans (h i hi).symm

end Cert.Gather

end
-- ==== Proof.Body.lean ====
/-
One device's run of the kernel body.

It starts the local and the remote copy, each with a share of the argument, and then waits for the local copy, for
the remote copy's departure and for the arrival of its partner's block. Afterwards it holds its whole argument,
unchanged, its whole result, gathered, and its three counters at zero.
-/
module

public import proofs.«01_k».proof.Proof.Cells

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What a device holds before and after -/

/-- Every counter of the mesh under its invariant, its round 0 reached. -/
def records (K : Dev nD × Fin 3 → ℕ) : sProp 𝕄 :=
  bigSep Finset.univ fun ck : Dev nD × Fin 3 => iprop(cellInv EC (plan m) (K ck) (cell ck.1 ck.2) ∗ reached EC (cell ck.1 ck.2) 0)

instance records_persistent (K : Dev nD × Fin 3 → ℕ) : BI.Persistent (records m K) := by unfold records; infer_instance

/-- One counter's record out of all. -/
theorem record_at (K : Dev nD × Fin 3 → ℕ) (c : Dev nD) (k : Fin 3) :
    records m K ⊢ iprop(cellInv EC (plan m) (K (c, k)) (cell c k) ∗ reached EC (cell c k) 0) := by
  unfold records
  exact bigSep_elim (Finset.mem_univ ((c, k) : Dev nD × Fin 3))

/-- The duties device `c` performs: its local copy's, its remote copy's at both ends. -/
def permits (c : Dev nD) : sProp 𝕄 :=
  iprop(dutyTok EC (cell c 0) 0 () ∗ dutyTok EC (cell c 1) 0 () ∗ dutyTok EC (cell (peer c) 2) 0 ())

/-- Device `c` stands before round 0 of its three counters. -/
def fresh (c : Dev nD) : sProp 𝕄 :=
  iprop(atPos EC (cell c 0) 0 ∅ 0 ∗ atPos EC (cell c 1) 0 ∅ 0 ∗ atPos EC (cell c 2) 0 ∅ 0)

/-- The memory device `c` starts with: its argument in two shares, and the rows it fills, at home and on its partner. -/
def memory (c : Dev nD) : sProp 𝕄 :=
  iprop((arg m fullShare.left c ∗ arg m fullShare.right c) ∗ (∃ f, part c c f) ∗ (∃ f, part c (peer c) f))

/-- Everything device `c` starts the body with. -/
def before (c : Dev nD) : sProp 𝕄 :=
  iprop((∃ K, records m K) ∗ fresh c ∗ permits c ∗ cred (tallyAt (cell c 2) () credit) ∗ memory m c)

/-- Everything it ends the body with. -/
def after (c : Dev nD) : sProp 𝕄 :=
  iprop((arg m fullShare.left c ∗ arg m fullShare.right c) ∗ (part c c (gathered m c) ∗ part (peer c) c (gathered m c))
    ∗ semVal (cell c 0) 0 ∗ semVal (cell c 1) 0 ∗ semVal (cell c 2) 0)

/-- At the start device `c` owes its partner's receiving counter the credit of one block. -/
def debt (c : Dev nD) : CellTallies nD τ sig Unit := tallyAt (cell (peer c) 2) () credit

/-- The proof data of the one-point pipeline: no window, the holdings above before and after the point. -/
def dats (_ : Fin 1) (c : Dev nD) : Dat τ (Elt F) Unit ℕ UU ℕ cfg0 c where
  A w := w.elim0
  after w _ := w.elim0
  Φ t := if t.val = 0 then before m c else after m c
  q _ := fullShare
  owed t := if t.val = 0 then debt c else 0

/-- No procedure of this program recurs. -/
abbrev 𝒱₀ : Variants := Variants.none

/-! ## The two copies -/

/-- The local copy, from its share of the argument and the device's own rows. -/
theorem run_copy (c : Dev nD) (K : Dev nD × Fin 3 → ℕ) (f : Buf (Elt F) ((c : Thread nD τ).loc main_v1))
    {hsrc : xM.view.WordExact} {hdst : (half c).view.WordExact}
    {hsem : DmaTarget.Typed (nD := nD) (τ := τ) (p := .tc) .hbm (.dma cc0_scratch0.sem) (.here (half c))}
    {α : Type} {Q : α → sProp 𝕄} {k : PUnit → Prog (TpuEff nD τ sig (Elt F) Λ₀ .tc) α} :
    iprop(cellInv EC (plan m) (K (c, 0)) (cell c 0) ∗ arg m fullShare.left c ∗ part c c f
        ∗ dutyTok EC (cell c 0) 0 () ∗ reached EC (cell c 0) 0)
      ⊢ iprop((cred (tallyAt (cell c 0) () credit) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.here (half c)) (.dma cc0_scratch0.sem) hsrc hdst hsem) k) Q) := by
  have hpay : iprop(((half c).view.loc (c : Thread nD τ) ↦[(half c).view.set]{fullShare}
          ((half c).view.write (Elt F) f (xM.view.read (Elt F) (blockOf m c)) Finset.univ))
        ∗ (xM.view.loc (c : Thread nD τ) ↦[xM.view.set]{fullShare.left} blockOf m c)) ⊢ (plan m).payload (cell c 0) 0 () := by
    rw [payload_now, part_copied m c c f fun i hi => gathered_own m c hi]
    exact BI.Entails.refl _
  unfold arg part
  exact Rounds.wp_copy_pointsTo 𝒱₀ EC (plan m) (c : Thread nD τ) none (κ := K (c, 0)) (mem_duties m c 0) () credit (credit_half c) (amount_now m _ _ _) hpay

/-- The remote copy to `n`, from the other share and the rows of the partner `n`; it settles what the device owes. -/
theorem run_send (c n : Dev nD) (hn : n = peer c) (K : Dev nD × Fin 3 → ℕ) (f : Buf (Elt F) ((peer c : Thread nD τ).loc main_v1)) (W : Waits sig Unit)
    {hsc : (half c : Memref sig (Dev.tc n : Thread nD τ).2.kind .hbm S16384x1024 .bf16).view.ref.isScScratch = false}
    {hsrc : xM.view.WordExact} {hdst : (half c).view.WordExact}
    {hsem : DmaTarget.Typed .hbm (.dma cc0_scratch2.sem) (.remote (Dev.tc n : Thread nD τ) (half c) (.dma cc0_scratch1.sem) hsc)}
    {α : Type} {Q : α → sProp 𝕄} {k : PUnit → Prog (TpuEff nD τ sig (Elt F) Λ₀ .tc) α} :
    iprop(cellInv EC (plan m) (K (c, 1)) (cell c 1) ∗ cellInv EC (plan m) (K (peer c, 2)) (cell (peer c) 2)
        ∗ arg m fullShare.right c ∗ part c (peer c) f ∗ owes (c : Thread nD τ) (debt c) W
        ∗ dutyTok EC (cell c 1) 0 () ∗ reached EC (cell c 1) 0 ∗ dutyTok EC (cell (peer c) 2) 0 () ∗ reached EC (cell (peer c) 2) 0)
      ⊢ iprop(((cred (tallyAt (cell c 1) () credit) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) (half c) (.dma cc0_scratch1.sem) hsc) (.dma cc0_scratch2.sem) hsrc hdst hsem) k) Q) := by
  subst hn
  have hpay₁ : (xM.view.loc (c : Thread nD τ) ↦[xM.view.set]{fullShare.right} blockOf m c : sProp 𝕄) ⊢ (plan m).payload (cell c 1) 0 () := by
    rw [payload_now]; exact BI.Entails.refl _
  have hpay₂ : ((half c).view.loc (peer c : Thread nD τ) ↦[(half c).view.set]{fullShare}
        ((half c).view.write (Elt F) f (xM.view.read (Elt F) (blockOf m c)) Finset.univ) : sProp 𝕄)
      ⊢ (plan m).payload (cell (peer c) 2) 0 () := by
    rw [payload_now, part_copied m c (peer c) f fun i hi => gathered_peer m c hi]
    show part c (peer c) (gathered m (peer c)) ⊢ part (peer (peer c)) (peer c) (gathered m (peer c))
    rw [peer_peer]
  have howed : debt c = 0 + tallyAt (cell (peer c) 2) () credit := by rw [zero_add]; rfl
  unfold arg part
  exact Rounds.wp_send_pointsTo 𝒱₀ EC (plan m) (c : Thread nD τ) none (κ₁ := K (c, 1)) (κ₂ := K (peer c, 2))
    (r₁ := 0) (r₂ := 0) (d₁ := ()) (d₂ := ()) (fd := f) (mem_duties m c 1) (mem_duties m (peer c) 2)
    () () credit (credit_half c) (amount_now m _ _ _) (amount_now m _ _ _) 0 howed (W := W)
    (c' := (peer c : Thread nD τ)) (src := xM) (dst := half c) (fs := blockOf m c) (q := fullShare.right) hpay₁ hpay₂

/-! ## The waits -/

/-- A wait for the one round of counter `k`, with nothing owed, followed by closing the counter. -/
theorem run_wait (c : Dev nD) (k : Fin 3) (K : Dev nD × Fin 3 → ℕ) (W : Waits sig Unit)
    {w : TpuEff nD τ sig (Elt F) Λ₀ .tc PUnit} {n : ℕ} (hn : n = credit)
    (hw : ∀ J : PUnit → sProp 𝕄, wpE (defs₀ (F := F)) 𝒱₀ (c : Thread nD τ) none Set.univ w J = waitSpec (c : Thread nD τ) Set.univ (counter k) n J)
    {α : Type} {Q : α → sProp 𝕄} {next : PUnit → Prog (TpuEff nD τ sig (Elt F) Λ₀ .tc) α} :
    iprop(cellInv EC (plan m) (K (c, k)) (cell c k) ∗ cred (tallyAt (cell c k) () credit) ∗ owes (c : Thread nD τ) 0 W ∗ atPos EC (cell c k) 0 ∅ 0)
      ⊢ iprop(((owes (c : Thread nD τ) 0 (insert (counter k, ()) W) ∗ handed m c k ∗ semVal (cell c k) 0)
            -∗ wp frame (wpE (defs₀ (F := F)) 𝒱₀ (c : Thread nD τ) none) Set.univ (next ⟨⟩) Q)
          -∗ wp frame (wpE (defs₀ (F := F)) 𝒱₀ (c : Thread nD τ) none) Set.univ (.op w next) Q) := by
  subst hn
  iintro ⟨#HI, Hc, HO, Hat⟩
  iintro Hk
  iapply (Rounds.wp_wait_rest_token 𝒱₀ EC (plan m) (c : Thread nD τ) none (κ := K (c, k)) hw (Set.mem_univ _) () (O := 0) (W := W)
      (R := 0) (m := 0) (T := ∅) (by rw [Nat.zero_add, expect_now])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq (received m c k)) $$ Hpay
  iapply (fupd_wp frame (wpE (defs₀ (F := F)) 𝒱₀ (c : Thread nD τ) none) Set.univ _ _)
  imod (Rounds.cell_close EC (plan m) (Set.mem_univ (K (c, k))) (fun h => h) (R := 0 + 1) (duties_later m (cell c k))) $$ [Hat] with Hz
  · isplitr; · iexact HI
    iexact Hat
  imodintro
  iapply Hk
  isplitl [HO]; · iexact HO
  isplitl [Hpay] <;> iassumption

/-! ## The body -/

/-- The body takes `before`, with the debt to the partner, to `after`, with nothing owed. -/
theorem run_body (c : Dev nD) (W : Waits sig Unit) (Kt : PUnit → sProp 𝕄) :
    iprop(before m c ∗ owes (c : Thread nD τ) (debt c) W ∗ ((after m c ∗ ∃ W', owes (c : Thread nD τ) 0 W') -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2) Kt := by
  simp only [cc0_body_eq_skeleton]; unfold cc0_body_skel
  simp only [Prog.lift, Prog.bind_op, Prog.bind_ret, Prog.pure_eq_ret, wp_deviceId]
  unfold before fresh permits memory
  iintro ⟨⟨⟨%K, #HR⟩, ⟨Hat0, Hat1, Hat2⟩, ⟨Ht0, Ht1, Ht2⟩, Hc2, ⟨Hxl, Hxr⟩, ⟨%f, Hown⟩, ⟨%g, Hfar⟩⟩, HO, Hk⟩
  ihave #H0 := (record_at m K c 0) $$ HR
  icases H0 with ⟨#HI0, #Hr0⟩
  ihave #H1 := (record_at m K c 1) $$ HR
  icases H1 with ⟨#HI1, #Hr1⟩
  ihave #H2 := (record_at m K c 2) $$ HR
  icases H2 with ⟨#HI2, -⟩
  ihave #Hp := (record_at m K (peer c) 2) $$ HR
  icases Hp with ⟨#HIp, #Hrp⟩
  -- both copies start
  iapply (run_copy m c K f) $$ [Hxl Hown Ht0]
  · isplitr; · iexact HI0
    isplitl [Hxl]; · iexact Hxl
    isplitl [Hown]; · iexact Hown
    isplitl [Ht0]; · iexact Ht0
    iexact Hr0
  iintro Hc0
  iapply (run_send m c _ (target_eq c) K g W) $$ [Hxr Hfar HO Ht1 Ht2]
  · isplitr; · iexact HI1
    isplitr; · iexact HIp
    isplitl [Hxr]; · iexact Hxr
    isplitl [Hfar]; · iexact Hfar
    isplitl [HO]; · iexact HO
    isplitl [Ht1]; · iexact Ht1
    isplitr; · iexact Hr1
    isplitl [Ht2]; · iexact Ht2
    iexact Hrp
  iintro ⟨Hc1, HO⟩
  -- the three waits
  iapply (run_wait m c 0 K W (credit_half c) (wpE_waitDma2_eq 𝒱₀ (c : Thread nD τ) none Set.univ)) $$ [Hc0 HO Hat0]
  · isplitr; · iexact HI0
    isplitl [Hc0]; · iexact Hc0
    isplitl [HO] <;> iassumption
  iintro ⟨HO, Hgot0, Hz0⟩
  iapply (run_wait m c 1 K _ credit_arg (wpE_waitDma2_eq 𝒱₀ (c : Thread nD τ) none Set.univ)) $$ [Hc1 HO Hat1]
  · isplitr; · iexact HI1
    isplitl [Hc1]; · iexact Hc1
    isplitl [HO] <;> iassumption
  iintro ⟨HO, Hgot1, Hz1⟩
  iapply (run_wait m c 2 K _ (credit_half c) (wpE_waitDma2_eq 𝒱₀ (c : Thread nD τ) none Set.univ)) $$ [Hc2 HO Hat2]
  · isplitr; · iexact HI2
    isplitl [Hc2]; · iexact Hc2
    isplitl [HO] <;> iassumption
  iintro ⟨HO, Hgot2, Hz2⟩
  rw [wp_ret]; imodintro
  iapply Hk
  unfold after
  simp only [handed]
  icases Hgot0 with ⟨Hown, Hxl⟩
  isplitr [HO]
  · isplitl [Hxl Hgot1]; · isplitl [Hxl] <;> iassumption
    isplitl [Hown Hgot2]; · isplitl [Hown] <;> iassumption
    isplitl [Hz0]; · iexact Hz0
    isplitl [Hz1] <;> iassumption
  · iexists _; iexact HO

/-- The pipeline's one point, discharged by the body's run. -/
theorem body_point (c : Dev nD) : BodyObligation (dats (F := F) m 0 c) (defs₀ (F := F)) 𝒱₀ () Set.univ := fun t => by
  rw [fin_N0 t, Finset.univ_eq_empty, bigSep_empty, bigSep_empty]
  show iprop(before m c ∗ (dats m 0 c).owesAt () t0_0.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2) (fun _ => iprop(after m c ∗ (dats m 0 c).owesAt () t0_0.succ ∗ emp))
  unfold Dat.owesAt Pipeline.owesWithin
  iintro ⟨Hb, ⟨%W, -, HO⟩, -⟩
  iapply (run_body m c W _)
  isplitl [Hb]; · iexact Hb
  isplitl [HO]; · iexact HO
  iintro ⟨Ha, ⟨%W', HO⟩⟩
  isplitl [Ha]; · iexact Ha
  isplitl [HO]
  · iexists W'
    isplitr; · ipureintro; exact fun _ _ => Or.inl trivial
    iexact HO
  iempintro

end Cert.Gather

end
-- ==== Proof.Run.lean ====
/-
The run of the whole mesh.

At launch the three counters of every device are put under their invariants, and each device hands its partner the
rows of its own result that the partner fills: a device may send before its partner has started. From there every
device runs its body on its own.
-/
module

public import proofs.«01_k».proof.Proof.Body

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (g : Dev nD → PrngReg)

/-! ## The counters' ghost state -/

/-- All counters of the mesh. -/
def allCells : Finset (GSem nD τ sig) := Finset.univ.map ⟨fun ck : Dev nD × Fin 3 => cell ck.1 ck.2, cell_injective⟩
/-- Their duties, one each. -/
def allDuties : Finset (GSem nD τ sig × ℕ × Unit) :=
  Finset.univ.map ⟨fun ck : Dev nD × Fin 3 => (cell ck.1 ck.2, 0, ()), fun _ _ h => cell_injective (congrArg Prod.fst h)⟩

/-- The user part at launch. -/
def u₀ : UU := (initOf (Pipeline.cells cfgs cellOf_inj) (Pipeline.launchToks cfgs cellOf_inj), initOf allCells allDuties)

/-- The launch's user part gives, for every counter, its schedule's state, its round 0 reached, its position and its duty. -/
theorem counters_fund : (ownU u₀ : sProp 𝕄) ⊢ |==> iprop(
    (bigSep Finset.univ fun ck : Dev nD × Fin 3 => roundState EC (plan m) (cell ck.1 ck.2) 0)
      ∗ (bigSep Finset.univ fun ck : Dev nD × Fin 3 => reached EC (cell ck.1 ck.2) 0)
      ∗ (bigSep Finset.univ fun ck : Dev nD × Fin 3 => atPos EC (cell ck.1 ck.2) 0 ∅ 0)
      ∗ (bigSep Finset.univ fun ck : Dev nD × Fin 3 => dutyTok EC (cell ck.1 ck.2) 0 ())) := by
  have h := Rounds.fund EC (plan m) allCells allDuties
  unfold allCells allDuties at h
  rw [bigSep_map, bigSep_map, bigSep_map, bigSep_map] at h
  unfold u₀ allCells allDuties
  exact ((ownU_pair _ _).trans sep_elim_right).trans h

/-- With every counter at zero, all of them go under their invariants. -/
theorem records_alloc :
    iprop((bigSep Finset.univ fun ck : Dev nD × Fin 3 => (semVal (cell ck.1 ck.2) 0 : sProp 𝕄))
        ∗ (bigSep Finset.univ fun ck : Dev nD × Fin 3 => roundState EC (plan m) (cell ck.1 ck.2) 0)
        ∗ (bigSep Finset.univ fun ck : Dev nD × Fin 3 => reached EC (cell ck.1 ck.2) 0))
      ⊢ |={Set.univ}=> iprop(∃ K, records m K) := by
  have halloc : iprop((bigSep Finset.univ fun ck : Dev nD × Fin 3 => (semVal (cell ck.1 ck.2) 0 : sProp 𝕄))
        ∗ (bigSep Finset.univ fun ck : Dev nD × Fin 3 => roundState EC (plan m) (cell ck.1 ck.2) 0))
      ⊢ |={Set.univ}=> bigSep Finset.univ fun ck : Dev nD × Fin 3 => iprop(∃ κ : ℕ, cellInv EC (plan m) κ (cell ck.1 ck.2)) := by
    rw [← bigSep_sep']
    exact (bigSep_mono fun ck _ => (Rounds.body_intro EC (plan m) (cell ck.1 ck.2)).trans inv_alloc).trans (bigSep_fupd _ _)
  iintro ⟨Hv, Hs, Hr⟩
  imod halloc $$ [Hv Hs] with H
  · isplitl [Hv] <;> iassumption
  imodintro
  ihave H := (BI.bigSep_exists_pi Finset.univ fun (ck : Dev nD × Fin 3) (κ : ℕ) => (cellInv EC (plan m) κ (cell ck.1 ck.2) : sProp 𝕄)) $$ H
  icases H with ⟨%K, H⟩
  iexists K
  unfold records
  rw [bigSep_sep']
  isplitl [H] <;> iassumption

omit [FloatOps F] in
/-- Three conjuncts for a family over the three counters. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- Every device stands before round 0 of its counters. -/
theorem fresh_deal : (bigSep Finset.univ fun ck : Dev nD × Fin 3 => (atPos EC (cell ck.1 ck.2) 0 ∅ 0 : sProp 𝕄)) ⊢ bigSep Finset.univ fresh := by
  rw [bigSep_univ_prod]
  exact bigSep_mono fun c _ => by rw [bigSep_three]; exact BI.Entails.refl _

/-- The duties dealt out: a receiving counter's goes to the partner, who performs it. -/
theorem permits_deal : (bigSep Finset.univ fun ck : Dev nD × Fin 3 => (dutyTok EC (cell ck.1 ck.2) 0 () : sProp 𝕄)) ⊢ bigSep Finset.univ permits := by
  rw [bigSep_univ_prod, bigSep_congr fun (c : Dev nD) _ => bigSep_three (F := F) fun k => dutyTok EC (cell c k) 0 ()]
  unfold permits
  rw [bigSep_sep', bigSep_sep', bigSep_sep', bigSep_sep',
    bigSep_univ_equiv swap fun c : Dev nD => (dutyTok EC (cell c 2) 0 () : sProp 𝕄)]
  exact BI.Entails.refl _

/-! ## What a core has at launch -/

/-- The three counters are the kernel's own semaphores. -/
theorem own_counters : Pipeline.OwnSemFacts cfg0.spec counter := by decide

/-- The core's other scoped counters at zero (there are none; they only pass through). -/
def others (c : Dev nD) : sProp 𝕄 := Pipeline.idleSems0 cfgs cellOf_inj 0 own_counters c

omit [FloatOps F] in
/-- A core's scoped counters at zero are the pipeline's, its own three and the others. -/
theorem scoped_counters (c : Dev nD) : (scopedSems0 (c : Thread nD τ) : sProp 𝕄)
    = iprop((Pipeline.cellsSems0 cfgs 0 c ∗ bigSep Finset.univ fun k => semVal (cell c k) 0) ∗ others c) :=
  Pipeline.scopedSems0_split cfgs cellOf_inj 0 winFacts0.to₀ own_counters c

omit [FloatOps F] in
/-- A core's unscoped buffers are its argument and its result. -/
theorem unscoped_buffers (c : Dev nD) : (unscopedBufs c (fun b => m ((c : Thread nD τ).loc b)) : sProp 𝕄)
    ⊢ iprop((((c : Thread nD τ).loc main_arg0) ↦{fullShare} blockOf m c) ∗ ((c : Thread nD τ).loc main_v1) ↦{fullShare} m ((c : Thread nD τ).loc main_v1)) := by
  rw [Pipeline.unscopedBufs_split cfgs 0 winFacts0.arr_unscoped winFacts0.arr_inj c, unscopedRest0_eq]
  exact sep_elim_right

/-- What device `d` owes counter 2 of device `c`: a block's credit if they are partners. -/
theorem debt_at (d c : Dev nD) : debt d (cell c 2) () = if d = peer c then credit else 0 := by
  unfold debt
  rw [tallyAt_apply]
  by_cases h : d = peer c
  · rw [if_pos h, h, peer_peer, if_pos ⟨rfl, rfl⟩]
  · rw [if_neg h, if_neg]
    rintro ⟨e, -⟩
    have e' : c = peer d := congrArg (fun g : GSem nD τ sig => g.1.1) e
    exact h (by rw [e', peer_peer])

omit [FloatOps F] in
/-- At launch each device holds the credit its receiving counter is owed. -/
theorem launch_credit (c : Dev nD) : (Pipeline.launchCred debt c : sProp 𝕄) ⊢ cred (tallyAt (cell c 2) () credit) := by
  refine (Pipeline.launchCred_elim debt c (counter 2)).trans (Entails.of_eq (congrArg cred ?_))
  unfold tallyAt
  refine congrArg _ (Finsupp.ext fun u => ?_)
  cases u
  rw [Pipeline.launchCredit_owing, Finsupp.single_eq_same, Finset.sum_congr rfl fun d _ => debt_at d c,
    Finset.sum_ite_eq' Finset.univ (peer c) fun _ => credit, if_pos (Finset.mem_univ _)]

/-- What the launch leaves as it is: the scoped buffers and the other counters. -/
def rest (c : Dev nD) : sProp 𝕄 := iprop(scopedBufs (c : Thread nD τ) ∗ others c)

/-- A core's own memory: the argument in two shares, the result in its two halves. -/
def owned (c : Dev nD) : sProp 𝕄 :=
  iprop((arg m fullShare.left c ∗ arg m fullShare.right c) ∗ (∃ f, part c c f) ∗ (∃ f, part (peer c) c f))

/-- A core's share of the launch before the dealing: its memory is all its own. -/
def raw (c : Dev nD) : sProp 𝕄 :=
  iprop(rest c ∗ (bigSep Finset.univ fun k => semVal (cell c k) 0) ∗ owned m c
    ∗ owes (c : Thread nD τ) (debt c) ∅ ∗ cred (tallyAt (cell c 2) () credit))

omit [FloatOps F] in
/-- The machine's initial state of a core gives it. -/
theorem core_raw (c : Dev nD) :
    coreInit (Ix := Unit) (Name := ℕ) (U := UU) (Lvl := ℕ) (Pipeline.owing debt) 0 (⟨m, fun _ => 0, g⟩ : MemSt nD τ sig (Elt F)) (c : Thread nD τ)
      ⊢ raw m c := by
  refine (Pipeline.coreInit_boundary_owing debt m g c).trans ?_
  unfold boundary raw rest owned
  rw [scoped_counters c]
  iintro ⟨⟨Hb, ⟨⟨-, Hs⟩, Ho⟩, -⟩, Hm, -, HO, -, -, Hc⟩
  ihave Hm := (unscoped_buffers m c) $$ Hm
  icases Hm with ⟨Hx, Hy⟩
  ihave Hx := (arg_split m c).1 $$ Hx
  ihave Hy := (result_split c _).1 $$ Hy
  icases Hy with ⟨Hown, Hfar⟩
  ihave Hc := (launch_credit c) $$ Hc
  isplitl [Hb Ho]; · isplitl [Hb] <;> iassumption
  isplitl [Hs]; · iexact Hs
  isplitl [Hx Hown Hfar]
  · isplitl [Hx]; · iexact Hx
    isplitl [Hown]
    · iexists _; iexact Hown
    · iexists _; iexact Hfar
  isplitl [HO] <;> iassumption

omit [FloatOps F] in
/-- The memory dealt out: the rows of a result that the partner fills go to the partner. -/
theorem memory_deal :
    bigSep Finset.univ (owned m) ⊢ bigSep Finset.univ (memory m) := by
  unfold owned memory
  simp only [bigSep_sep']
  rw [bigSep_univ_equiv swap fun c : Dev nD => (iprop(∃ f, part (peer c) c f) : sProp 𝕄)]
  have h : (bigSep Finset.univ fun c : Dev nD => (iprop(∃ f, part (peer (swap c)) (swap c) f) : sProp 𝕄))
      = bigSep Finset.univ fun c : Dev nD => iprop(∃ f, part c (peer c) f) :=
    bigSep_congr fun c _ => by
      show iprop(∃ f, part (peer (peer c)) (peer c) f) = iprop(∃ f, part c (peer c) f)
      rw [peer_peer]
  rw [h]

/-- What each core starts @main with. -/
def pre (c : Dev nD) : sProp 𝕄 :=
  iprop(rest c ∗ before m c ∗ owes (c : Thread nD τ) (debt c) ∅)

/-- A core's memory at its end: the argument unchanged, the result gathered. -/
def done (c : Dev nD) : sProp 𝕄 :=
  iprop((((c : Thread nD τ).loc main_arg0) ↦{fullShare} blockOf m c) ∗ ((c : Thread nD τ).loc main_v1) ↦{fullShare} gathered m c)

/-- What it ends with. -/
def fin (c : Dev nD) : sProp 𝕄 :=
  iprop(done m c ∗ scopedSems0 (c : Thread nD τ))

/-- The launch: from the machine's initial state to every core's start. -/
theorem launch :
    iprop((bigSep Finset.univ fun d : Dev nD =>
          coreInit (Ix := Unit) (Name := ℕ) (U := UU) (Lvl := ℕ) (Pipeline.owing debt) 0 (⟨m, fun _ => 0, g⟩ : MemSt nD τ sig (Elt F)) (d : Thread nD τ))
        ∗ ownU u₀)
      ⊢ iprop(|={Set.univ}=> ∃ _ : Unit, bigSep Finset.univ (pre m) ∗ emp : sProp 𝕄) := by
  have hraw : (bigSep Finset.univ fun d : Dev nD =>
        coreInit (Ix := Unit) (Name := ℕ) (U := UU) (Lvl := ℕ) (Pipeline.owing debt) 0 (⟨m, fun _ => 0, g⟩ : MemSt nD τ sig (Elt F)) (d : Thread nD τ))
      ⊢ bigSep Finset.univ (raw m) := bigSep_mono fun c _ => core_raw m g c
  unfold raw at hraw
  rw [bigSep_sep', bigSep_sep', bigSep_sep', bigSep_sep',
    ← bigSep_univ_prod fun ck : Dev nD × Fin 3 => (semVal (cell ck.1 ck.2) 0 : sProp 𝕄)] at hraw
  iintro ⟨Hcores, Hu⟩
  ihave H := hraw $$ Hcores
  icases H with ⟨Hrest, Hsem, Hmem, HO, Hcr⟩
  imod (counters_fund m) $$ Hu with ⟨Hst, Hre, Hat, Hto⟩
  imod (records_alloc m) $$ [Hsem Hst Hre] with ⟨%K, #HR⟩
  · isplitl [Hsem]; · iexact Hsem
    isplitl [Hst] <;> iassumption
  ihave Hmem := (memory_deal m) $$ Hmem
  ihave Hat := (fresh_deal (F := F)) $$ Hat
  ihave Hto := (permits_deal (F := F)) $$ Hto
  imodintro
  iexists ()
  isplitl
  · unfold pre before
    rw [bigSep_sep', bigSep_sep', bigSep_sep', bigSep_sep', bigSep_sep', bigSep_sep']
    isplitl [Hrest]; · iexact Hrest
    isplitr [HO]
    · isplitr
      · iapply (BI.bigSep_intro_persistent (S := Finset.univ) (R := records m K) fun (c : Dev nD) _ => exists_intro K)
        iexact HR
      isplitl [Hat]; · iexact Hat
      isplitl [Hto]; · iexact Hto
      isplitl [Hcr] <;> iassumption
    · iexact HO
  · iempintro

/-! ## One core's run of @main -/

omit [FloatOps F] in
/-- A core's scoped buffers are its pipeline's staging buffers (there are none). -/
theorem scoped_buffers (c : Dev nD) : (scopedBufs (c : Thread nD τ) : sProp 𝕄) = iprop(Dat.staging cfg0 c ∗ BI.emp) := by
  rw [Pipeline.scopedBufs_split cfgs 0 winFacts0.stage_scoped winFacts0.stage_inj stage_whole0 c, scopedRest0_eq]

/-- What the body leaves is the core's final memory, its scoped counters at zero and its scoped buffers. -/
theorem leave (c : Dev nD) :
    iprop((dats m 0 c).Φ (Fin.last cfg0.N) ∗ Pipeline.cellsSems0 cfgs 0 c ∗ Dat.staging cfg0 c ∗ others c)
      ⊢ iprop(done m c ∗ scopedSems0 (c : Thread nD τ) ∗ scopedBufs (c : Thread nD τ)) := by
  rw [scoped_counters c, bigSep_three, scoped_buffers c]
  show iprop(after m c ∗ _) ⊢ _
  unfold after done
  iintro ⟨⟨Hx, Hy, Hz⟩, Hcells, Hst, Ho⟩
  ihave Hx := (arg_split m c).2 $$ Hx
  ihave Hy := (result_split c _).2 $$ Hy
  isplitl [Hx Hy]; · isplitl [Hx] <;> iassumption
  isplitl [Hcells Hz Ho]
  · isplitl [Hcells Hz]; · isplitl [Hcells] <;> iassumption
    iexact Ho
  isplitl [Hst]; · iexact Hst
  iempintro

/-- The kernel's only pipeline, at its only choice of tables. -/
abbrev pinned : Fin 1 → Pipeline.Cfg sig Λ₀ := Pipeline.pin (pcfgs (F := F)) fun p => (cfgs p).toPCfg_adm

/-- Entering the region with what the body starts from and returning with what it leaves. -/
theorem region (c : Dev nD) {Q : PUnit → sProp 𝕄} :
    iprop(Pipeline.EntryPre (pinned (F := F)) (dats m) () EP (fun _ => 0) 0 c
        ∗ Pipeline.prefHeld (pcfgs (F := F) 0).pre c (fun _ => fullShare.right) ((cfgs 0).toPCfg_adm (Val := Elt F)).1 ∗ before m c ∗ others c ∗ scopedBufs (c : Thread nD τ))
      ⊢ iprop(((Pipeline.EntryPost (pinned (F := F)) (dats m) () 0 c ∗ done m c ∗ scopedSems0 (c : Thread nD τ) ∗ scopedBufs (c : Thread nD τ))
            -∗ wp frame (wpE (Pipeline.defs (pcfgs (F := F)) defs₀) (Variants.lift 𝒱₀) (c : Thread nD τ) none) Set.univ (.ret ⟨⟩) Q)
          -∗ wp frame (wpE (Pipeline.defs (pcfgs (F := F)) defs₀) (Variants.lift 𝒱₀) (c : Thread nD τ) none) Set.univ (.op (.customCall (Pipeline.entry 0) ()) fun _ => .ret ⟨⟩) Q) :=
  Pipeline.wp_customCall_entry_frame (pcfgs (F := F)) (fun p => (cfgs p).toPCfg_adm) (dats m) () EP (fun _ => 0) cellOf_inj (0 : Fin 1)
    (defs₀ (F := F)) 𝒱₀ (fun _ => fullShare.right) c Set.univ (fun _ _ => Set.mem_univ _) (body_point m c).loose (fun w => w.elim0) none (fun u h => nomatch h)
    (X := before m c) (Y := done m c) (R := BI.emp) (I := others c) (Entails.of_eq (scoped_buffers c)) sep_elim_left (leave m c)
    (k := fun _ => .ret ⟨⟩) (Q := Q)

/-- From its start a core's @main runs to its end. -/
theorem core_run (c : Dev nD) :
    pre m c ⊢ wp frame (wpE (defs (F := F)) (Variants.lift 𝒱₀) (c : Thread nD τ) none) Set.univ (main (F := F) c)
      (fun _ => post (liftTc (fin m) BI.emp) (c : Thread nD τ)) := by
  unfold pre rest
  iintro ⟨⟨Hb, Ho⟩, Hbef, HO⟩
  iapply (region m c) $$ [Hb Ho Hbef HO]
  · isplitl [HO]
    · unfold Pipeline.EntryPre Pipeline.PerCore.EntryPre Pipeline.Dat.arrays Pipeline.PerCore.cellsWaits Pipeline.PerCore.cellsInit Pipeline.PerCore.RDat.cellsWaits Pipeline.PerCore.RDat.cellsInit Pipeline.PerCore.toksInit Pipeline.Dat.owesAt Pipeline.owesWithin
      rw [Finset.univ_eq_empty, bigSep_empty, bigSep_empty, bigSep_empty, bigSep_empty]
      isplitr; · iempintro
      isplitl [HO]
      · iexists ∅
        isplitr; · ipureintro; rw [Finset.coe_empty]; exact Set.empty_subset _
        iexact HO
      isplitr; · iempintro
      isplitr <;> iempintro
    isplitr
    · unfold Pipeline.prefHeld
      rw [Finset.univ_eq_empty, bigSep_empty]; iempintro
    isplitl [Hbef]; · iexact Hbef
    isplitl [Ho] <;> iassumption
  iintro ⟨Hpost, HY, Hs, -⟩
  rw [wp_ret]; imodintro
  unfold post; simp only [liftTc_tc, fin]
  unfold Pipeline.EntryPost Pipeline.PerCore.EntryPost Pipeline.Dat.owesAt Pipeline.owesWithin
  icases Hpost with ⟨-, ⟨%W, -, HW⟩⟩
  isplitr [HW]
  · isplitl [HY] <;> iassumption
  · iexists W; iexact HW

/-! ## The run -/

/-- What a core's end says about a final state. -/
theorem core_read (c : Dev nD) (s' : Phys nD τ sig (Elt F)) : iprop(fin m c ∗ SI s') ⊢ |={Set.univ}=>
    iprop(⌜(s'.mem.mem ((c : Thread nD τ).loc main_v1) = gathered m c ∧ s'.mem.mem ((c : Thread nD τ).loc main_arg0) = blockOf m c)
      ∧ ∀ sm : SemLoc sig, sm.isScoped .tc = true → s'.mem.sem ((c : Thread nD τ), sm) = 0⌝ ∗ SI s') := by
  unfold fin done
  iintro ⟨⟨⟨Hx, Hy⟩, Hs⟩, HSI⟩
  ihave %hz := (tcScoped_read_pers c s') $$ [Hs HSI]
  · isplitl [Hs] <;> iassumption
  icombine HSI Hx gives %hx
  icombine HSI Hy gives %hy
  imodintro
  isplitr
  · ipureintro
    exact ⟨⟨funext fun i => hy i (Finset.mem_univ i), funext fun i => hx i (Finset.mem_univ i)⟩, hz⟩
  · iexact HSI

/-- For any float values, from any memory with every counter at zero: every weakly fair execution of @main on the eight
    devices terminates, and at every final state each device's result is the gathered one, its argument is unchanged and
    every counter is zero. -/
theorem run_main : θ_run (defs (F := F)) (onTc (τ := τ) (main (F := F))) ⟨m, fun _ => 0, g⟩ (fun r =>
    (∀ c : Dev nD, r.2.mem ((c : Thread nD τ).loc main_v1) = gathered m c
      ∧ r.2.mem ((c : Thread nD τ).loc main_arg0) = m ((c : Thread nD τ).loc main_arg0))
    ∧ r.2.sem = fun _ => 0) := by
  refine (θ_run (defs (F := F)) _ _).mono
    (Q := fun r => (∀ c : Dev nD, (r.2.mem ((c : Thread nD τ).loc main_v1) = gathered m c ∧ r.2.mem ((c : Thread nD τ).loc main_arg0) = blockOf m c)
      ∧ ∀ sm : SemLoc sig, sm.isScoped .tc = true → r.2.sem ((c : Thread nD τ), sm) = 0) ∧ ∀ g' : GSem nD τ sig, g'.1.2 ≠ .tc → r.2.sem g' = 0)
    (fun r h => ⟨fun c => (h.1 c).1, sem_eq_zero_of_scoped (by decide) (sems_of_reads (fun c => (h.1 c).2) h.2)⟩)
    (adequate_tpu (defs (F := F)) _ _ _
      (reflect_intro_fupd_tc_sems (X := Unit) (Variants.lift 𝒱₀) (Pipeline.owing debt) 0 (noBookings fun _ => le_rfl) (Pipeline.owing_of_ne debt)
        u₀ (fun _ => pre m) (fun _ => fin m) (fun _ => iprop(emp)) Set.univ (launch m g) (fun _ c => core_run m c) fun _ => ?_))
  iintro ⟨H, -, Hsc⟩ %s' HSI
  ihave %hsc := (scSems_read_zero m g s') $$ [Hsc HSI]
  · isplitl [Hsc] <;> iassumption
  imod (posts_fupd Finset.univ (core_read m) s') $$ [H HSI] with %h
  · isplitl [H] <;> iassumption
  imodintro
  ipureintro
  exact ⟨fun c => h c (Finset.mem_univ c), hsc⟩

end Cert.Gather

end
-- ==== Proof.Value.lean ====
/-
The value: where every device holds its block of one array, the gathered result is that array on every device.
-/
module

public import proofs.«01_k».proof.Proof.Run
public import Idealize.ShloMosaic.Lib.Layout

@[expose] public section

noncomputable section

namespace Cert.Gather

open Cert.KernelIdeal Cert.KernelIdeal.Gen
open Idealize.ShloMosaic Idealize.ShloMosaic.TcCoe

variable {F : FTy → Type} [FloatOps F]
variable (m : (ℓ : Loc nD τ sig) → Buf (Elt F) ℓ)

/-- The device a row is filled from has the x-coordinate of the row's block. -/
theorem source_coord (c : Dev nD) (i : S32768x1024.Idx) : (source c i).val / 4 = (i 0).val / 16384 := by
  unfold source
  have := peer_coord c; have := coord_lt c
  have : (i 0).val < 32768 := (i 0).isLt
  split <;> omega

/-- Along the rows, the block of a device is numbered by its x-coordinate. -/
theorem block_number (c : Dev nD) : Layout.meshLin [2, 2, 2] c.val [0] = c.val / 4 := by revert c; decide

/-- If each device's argument is its block of `w`, cut by rows along the mesh axis x, each device's result is `w`. -/
theorem gathered_whole (w : S32768x1024.Idx → Elt F .bf16)
    (h : ∀ c : Dev nD, blockOf m c = Layout.blockN ⟨2, ![16384, 1024]⟩ ⟨2, ![32768, 1024]⟩ (Layout.meshBlock [2, 2, 2] ![[0], []] c) w)
    (c : Dev nD) : gathered m c = w := by
  funext i
  unfold gathered
  rw [h (source c i), Layout.blockN_apply]
  refine congrArg w (funext fun a => Fin.ext ?_)
  have h0 : (i 0).val < 32768 := (i 0).isLt
  have h1 : (i 1).val < 1024 := (i 1).isLt
  fin_cases a
  · show Layout.meshLin [2, 2, 2] (source c i).val [0] * 16384 + (i 0).val % 16384 = (i 0).val
    rw [block_number, source_coord]
    omega
  · show 0 * 1024 + (i 1).val % 1024 = (i 1).val
    omega

end Cert.Gather

end
-- ==== Proof.Reference.lean ====
/-
The reference returns its argument: on its one device nothing runs, so the array ends as it was.
-/
module

public import proofs.«01_k».proof.Proof.Gen.ReferenceIdeal
public import Idealize.ShloMosaic.Lib.Pipeline.Launch
public import Idealize.ShloMosaic.Lib.Pipeline.Kit
public import Idealize.ShloMosaic.Lib.Tactic
public import Idealize.ShloMosaic.Adequacy
public import Idealize.ShloMosaic.Init

@[expose] public section

noncomputable section

namespace Cert.Whole

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (g : Dev nD → PrngReg)

/-- What the device holds at the end: its array, as at the start. -/
def kept (c : Dev nD) : sProp 𝕄 :=
  (((c : Thread nD τ).loc main_arg0) ↦{fullShare} m ((c : Thread nD τ).loc main_arg0))

/-- For any float values, from any memory with every counter at zero: every weakly fair execution of the reference's
    @main terminates, its array unchanged and every counter at zero. -/
theorem run_main : θ_run (defs (F := F)) (onTc (τ := τ) (main (F := F))) ⟨m, fun _ => 0, g⟩ (fun r =>
    (∀ c : Dev nD, r.2.mem ((c : Thread nD τ).loc main_arg0) = m ((c : Thread nD τ).loc main_arg0)) ∧ r.2.sem = fun _ => 0) := by
  refine adequate_tpu (defs (F := F)) _ _ _
    (reflect_intro_silent_tc (Ix := Unit) (Name := ℕ) (U := UR sig nD τ) (Lvl := ℕ) (Variants.lift Variants.none) (fun _ => le_rfl)
      (initOf ∅ ∅) (kept m) (fun c s' => s'.mem ((c : Thread nD τ).loc main_arg0) = m ((c : Thread nD τ).loc main_arg0))
      (fun c => ?_) (fun c s' => ?_) fun s' h => ⟨h, ?_⟩)
  · rw [show main (F := F) c = .ret ⟨⟩ from rfl, bigSep_univ_at _ main_arg0, wp_ret]
    iintro ⟨⟨Hx, -⟩, HO, -, -⟩
    imodintro
    unfold post; simp only [liftTc_tc, kept]
    isplitl [Hx]; · iexact Hx
    iexists ∅; iexact HO
  · unfold kept
    iintro ⟨Hx, HSI⟩
    icombine HSI Hx gives %hx
    ipureintro
    exact funext fun i => hx i (Finset.mem_univ i)
  · funext gs
    obtain ⟨-, s | s⟩ := gs
    · exact s.elim0
    · exact s.elim0

end Cert.Whole

end
-- ==== Proof.lean ====
/-
The five claims: the kernel, its idealization and the reference run with their arguments unchanged and every
semaphore at zero; the idealization is sanctioned; and on the extended reals every device's result is the whole array
the reference returns.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel, read bit by bit, runs with its argument unchanged and ends with every counter at zero: it is the program
    of `Cert.Gather.run_main`, word for word. -/
theorem frame_kernel : Cert.quiescent_Kernel := fun m ρ _ =>
  (θ_run Cert.KernelIdeal.defs _ _).mono (fun _ h => ⟨fun c => (h.1 c).2, h.2⟩) (Cert.Gather.run_main (F := Bits) m ρ)

/-- So does its idealization, on the extended reals. -/
theorem frame_ideal : Cert.quiescent_KernelIdeal := fun m ρ _ =>
  (θ_run Cert.KernelIdeal.defs _ _).mono (fun _ h => ⟨fun c => (h.1 c).2, h.2⟩) (Cert.Gather.run_main (F := Ideal) m ρ)

/-- The reference's array is unchanged too. -/
theorem frame_reference : Cert.quiescent_ReferenceIdeal := fun m ρ _ => Cert.Whole.run_main (F := Ideal) m ρ

/-- Where each device starts with its block of the reference's array, each device's result ends as that whole array. -/
theorem value : Cert.algebraic_KernelIdeal_ReferenceIdeal := fun m ρ m' ρ' _ hblocks =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.Gather.gathered_whole (F := Ideal) m _ hblocks c), (h.1 c).2⟩)
      (Cert.Gather.run_main (F := Ideal) m ρ),
    (θ_run Cert.ReferenceIdeal.defs _ _).mono (fun _ h => ⟨h.1 0, h.1 0⟩) (Cert.Whole.run_main (F := Ideal) m' ρ')⟩

/-- Everything the certificate claims. -/
theorem claim : Cert.Claim := ⟨Cert.Kernel.Gen.facts, Cert.KernelIdeal.Gen.facts, Cert.ReferenceIdeal.Gen.facts,
  frame_kernel, frame_ideal, frame_reference, trivial, value⟩

end Cert.Proof

end
